-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S4x512x1024, .f32⟩
  | .local _ .vmem, ⟨5, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S1x1, .i32⟩
  | .hbm, ⟨22, _⟩ => ⟨S8192x1, .i32⟩
  | .hbm, ⟨23, _⟩ => ⟨S8192x1, .i1⟩
  | .hbm, ⟨24, _⟩ => ⟨S8192x1, .i1⟩
  | .hbm, ⟨25, _⟩ => ⟨S_, .i1⟩
  | .hbm, ⟨26, _⟩ => ⟨S8192, .i1⟩
  | .hbm, ⟨27, _⟩ => ⟨S8192x1024, .f32⟩
  | .hbm, ⟨28, _⟩ => ⟨S8192x1024, .i1⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S1x8192x1024, .f32⟩
  | .hbm, ⟨33, _⟩ => ⟨S4x8192x1024, .f32⟩
  | .hbm, ⟨34, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Values.Sum.lean ====
/- The function that both programs are shown to compute: every sequence of the batch plus the table of positions. -/
module

public import Idealize.ShloMosaic.Lib.ValueIdx

@[expose] public section

noncomputable section

namespace Cert.Values

open Idealize.ShloMosaic Idealize.ShloMosaic.ValueIdx

variable {F : FTy → Type} [FloatOps F]

/-- `x + p` with the table `p` repeated for each sequence of the batch: at batch entry `b`, position `s`, lane `e` the
    float sum of `x[b, s, e]` and `p[s, e]`. -/
def posSum {B S E : Nat} (x : FVec F ⟨3, ![B, S, E]⟩ .f32) (p : FVec F ⟨2, ![S, E]⟩ .f32) : FVec F ⟨3, ![B, S, E]⟩ .f32 :=
  fun i => FloatOps.addf (x i) (p (ix2 (i 1) (i 2)))

end Cert.Values

end
-- ==== Proof.Values.Tiled.lean ====
/- What the tiled kernel leaves in its result array: the sum of the batch and the position table, at every index. -/
module

public import proofs.«01_k».proof.Proof.Gen.KernelIdeal.Value
public import proofs.«01_k».proof.Proof.Values.Sum
public import Idealize.ShloMosaic.Lib.Pipeline.ValueKit

@[expose] public section

noncomputable section

namespace Cert.Values.Tiled

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- Device `c`'s batch plus its position table: what the result array is shown to hold. -/
abbrev result (c : Dev nD) : Buf (Elt F) ((c : Thread nD τ).loc main_v0) :=
  posSum (B := 4) (S := 8192) (E := 1024) (m ((c : Thread nD τ).loc main_arg0)) (m ((c : Thread nD τ).loc main_arg1))

/-- Grid point `t` works on block `t` along the positions: of the batch, -/
theorem index_batch : ∀ t : Fin cfg0.N, win0_0.index t = ![0, t.val, 0] :=
  (by decide +kernel : ∀ t : Fin grid0.N, win0_0.index t = ![0, t.val, 0])

/-- of the table, -/
theorem index_table : ∀ t : Fin cfg0.N, win0_1.index t = ![t.val, 0] :=
  (by decide +kernel : ∀ t : Fin grid0.N, win0_1.index t = ![t.val, 0])

/-- and of the result. -/
theorem index_result : ∀ t : Fin cfg0.N, win0_2.index t = ![0, t.val, 0] :=
  (by decide +kernel : ∀ t : Fin grid0.N, win0_2.index t = ![0, t.val, 0])

/-- The 16 blocks of the result fill its array, and each holds the sum over the batch and table blocks of the same
    positions: so the array ends at the sum of the whole arrays. -/
theorem final (c : Dev nD) : (dats m 0 c).arrAt 2 cfg0.N = result m c := by
  refine (dats m 0 c).arrAt_eq_of_covers 2 _ (by decide +kernel) fun t hf y => ?_
  blk_simp
  rw [after0_2]
  unfold out0_2
  rw [Value.canon2_eq, View.ld_unit_zero (by decide), View.ld_unit_zero (by decide)]
  refine congrArg₂ FloatOps.addf ?_ ?_
  · blk_simp [iblk]
    refine congrArg (m ((c : Thread nD τ).loc main_arg0)) ?_
    blk_ext [index_batch, index_result]
  · blk_simp [iblk]
    refine congrArg (m ((c : Thread nD τ).loc main_arg1)) ?_
    funext a
    refine Fin.ext ?_
    match a with
    | ⟨0, _⟩ =>
      show ((win0_1.blk t).view.emb (Value.ix2_1 y) 0 : Nat) = ((win0_2.blk t).view.emb y 1 : Nat)
      blk_simp [index_table, index_result]
      rfl
    | ⟨1, _⟩ =>
      show ((win0_1.blk t).view.emb (Value.ix2_1 y) 1 : Nat) = ((win0_2.blk t).view.emb y 2 : Nat)
      blk_simp [index_table, index_result]
      rfl

/-- The kernel's run: the result array ends at the sum, the arguments as they were. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Values.Tiled

end
-- ==== Proof.Values.Take.lean ====
/- What `jnp.take(table, jnp.arange(n), axis=0)` computes, in the operations it prints as: the table itself. -/
module

public import Idealize.ShloMosaic.Lib.ValueIdx
public import Idealize.ShloMosaic.Lib.Pointwise
public import Idealize.ShloMosaic.Lib.ReduceAll
public import Idealize.ShloMosaic.Lib.WordArith
public import Idealize.ShloMosaic.Lib.Routing.Ops

@[expose] public section

noncomputable section

namespace Cert.Values.Take

open Idealize.ShloMosaic Idealize.ShloMosaic.ValueIdx

/-- The word of position `n` after the range (`0 + 1 · n`) and after `jnp.take` has wrapped negative indices round. -/
abbrev wrapped (n : Nat) : BitVec 32 :=
  Scalar.select (IntOp.cmpi .slt (IntOp.addi 0#32 (IntOp.muli 1#32 (BitVec.ofNat 32 n))) 0#32)
    (IntOp.addi (IntOp.addi 0#32 (IntOp.muli 1#32 (BitVec.ofNat 32 n))) 8192#32)
    (IntOp.addi 0#32 (IntOp.muli 1#32 (BitVec.ofNat 32 n)))

/-- A position is its own word: the range adds nothing to it, and no position is negative. -/
theorem wrapped_eq (n : Nat) (hn : n < 8192) : wrapped n = BitVec.ofNat 32 n := by
  have e : IntOp.addi 0#32 (IntOp.muli 1#32 (BitVec.ofNat 32 n)) = BitVec.ofNat 32 n := by
    simp [IntOp.addi, IntOp.muli]
  have h : ¬IntOp.cmpi .slt (BitVec.ofNat 32 n) 0#32 = 1#1 := by
    rw [IntOp.cmpi_slt, WordArith.toInt_ofNat_small n (by omega)]
    simp
  rw [wrapped, e, eq_zero_of_ne_one h, select_zero]

/-- A position lies in the table: both of `jnp.take`'s bounds hold. -/
theorem in_table (n : Nat) (hn : n < 8192) :
    IntOp.andi (IntOp.cmpi .sge (wrapped n) 0#32) (IntOp.cmpi .sle (wrapped n) 8191#32) = 1#1 := by
  rw [wrapped_eq n hn, IntOp.andi_eq_one, IntOp.cmpi_sge, IntOp.cmpi_sle, WordArith.toInt_ofNat_small n (by omega)]
  refine ⟨?_, ?_⟩
  · simp
  · show (n : Int) ≤ 8191
    omega

end Cert.Values.Take

end
-- ==== Proof.Values.Looked.lean ====
/- What the reference computes: looking up every position in turn gives the table back, so its result is the sum of the
   batch and the position table. -/
module

public import proofs.«01_k».proof.Proof.Gen.ReferenceIdeal.Run
public import proofs.«01_k».proof.Proof.Values.Sum
public import proofs.«01_k».proof.Proof.Values.Take

@[expose] public section

noncomputable section

namespace Cert.Values.Looked

open Cert.ReferenceIdeal Cert.ReferenceIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

/-- Device `c`'s batch plus its position table: what the reference's result is shown to be. -/
abbrev result (c : Dev nD) : Buf (Elt F) ((c : Thread nD τ).loc main_v8) :=
  posSum (B := 4) (S := 8192) (E := 1024) (m ((c : Thread nD τ).loc main_arg0)) (m ((c : Thread nD τ).loc main_arg1))

/-- The row number that the lookup uses for each position: the range `0 + 1 · n`, with `8192` added where it is
    negative. -/
def rows : IVec S8192x1 32 :=
  broadcastInDim S8192x1 ![0] bcast_S8192_S8192x1_0
    (select
      (cmpi .slt (addi (broadcastInDim S8192 ![] bcast_S_S8192 (constantI S_ 32 0#32)) (muli (broadcastInDim S8192 ![] bcast_S_S8192 (constantI S_ 32 1#32)) (iotaInDim S8192 32 0)))
        (broadcastInDim S8192 ![] bcast_S_S8192 (constantI S_ 32 0#32)))
      (addi (addi (broadcastInDim S8192 ![] bcast_S_S8192 (constantI S_ 32 0#32)) (muli (broadcastInDim S8192 ![] bcast_S_S8192 (constantI S_ 32 1#32)) (iotaInDim S8192 32 0)))
        (broadcastInDim S8192 ![] bcast_S_S8192 (constantI S_ 32 8192#32)))
      (addi (broadcastInDim S8192 ![] bcast_S_S8192 (constantI S_ 32 0#32)) (muli (broadcastInDim S8192 ![] bcast_S_S8192 (constantI S_ 32 1#32)) (iotaInDim S8192 32 0))))

/-- Whether each position's row number lies in the table. -/
def inside : IVec S8192 1 :=
  Host.reduce IntOp.andi
    (andi (cmpi .sge rows (broadcastInDim S8192x1 ![] bcast_S_S8192x1 (constantI S_ 32 0#32)))
      (cmpi .sle rows (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows looked up: the table's, or the fill where the row number lies outside the table. -/
def looked (p : FVec F S8192x1024 .f32) : FVec F S8192x1024 .f32 :=
  select (broadcastInDim S8192x1024 ![0] bcast_S8192_S8192x1024_0 inside)
    (Host.gather gather_S8192x1024_S8192x1_S8192x1024_1_0_n_n_0_1_11024 p rows)
    (broadcastInDim S8192x1024 ![] bcast_S_S8192x1024 (constant S_ .f32 0x7FC00000#32))

/-- The row number of position `n`, read at its index: the word `Take.wrapped n`. -/
theorem rows_apply (j : S8192x1.Idx) : rows j = Take.wrapped (j 0).val := rfl

/-- Every position lies in the table. -/
theorem inside_apply (j : S8192.Idx) : inside j = 1#1 :=
  Host.reduce_andi_one _ _ _ _ _ rfl fun i => Take.in_table (i 0).val (i 0).isLt

/-- Looking up every position in turn gives the table back. -/
theorem looked_eq (p : FVec F S8192x1024 .f32) : looked p = p := by
  funext i
  unfold looked
  rw [select_apply, show broadcastInDim S8192x1024 ![0] bcast_S8192_S8192x1024_0 inside i = 1#1 from inside_apply _, select_one,
    ValueIdx.eq_ix2 i]
  exact Routing.gather_row _ rfl rfl rfl rfl rfl p rows (i 0) (i 1) (i 0)
    ((rows_apply _).trans (Take.wrapped_eq _ (i 0).isLt)) (by decide)

/-- The reference's result, as its operations compose: the batch plus the rows looked up, repeated for each sequence. -/
theorem composed (x : FVec F S4x8192x1024 .f32) (p : FVec F S8192x1024 .f32) :
    addf x (broadcastInDim S4x8192x1024 ![0, 1, 2] bcast_S1x8192x1024_S4x8192x1024_0_1_2
      (broadcastInDim S1x8192x1024 ![1, 2] bcast_S8192x1024_S1x8192x1024_1_2 (looked p))) = posSum x p := by
  rw [looked_eq]
  funext i
  refine congrArg (FloatOps.addf (x i)) (congrArg p (funext fun a => ?_))
  match a with
  | ⟨0, _⟩ => rfl
  | ⟨1, _⟩ => rfl

/-- The reference's run: its result is the sum, the arguments are as they were. -/
theorem run : θ_run defs (onTc (τ := τ) (main (F := F))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (composed _ _), (h c).2⟩) (Value.run m ρ)

end Cert.Values.Looked

end
-- ==== Proof.lean ====
/- The certificate: the frames are generated; the value claim puts the tiled kernel's result (Values/Tiled.lean) beside
   the reference's (Values/Looked.lean), each the sum of the batch and the position table (Values/Sum.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Values.Tiled
public import proofs.«01_k».proof.Proof.Values.Looked
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to its end, leaves its arguments as they were, and declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.Values.Looked.run (F := Ideal) m ρ)

/-- From arguments that agree, the kernel and the reference end with the same array: the sum of the batch and the
    position table. -/
theorem values : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Values.Tiled.result m c, Cert.Values.Tiled.run (F := Ideal) m ρ, ?_⟩
  refine (θ_run Cert.ReferenceIdeal.defs _ _).mono (fun _ h c => ⟨(h c).1.trans ?_, (h c).2⟩)
    (Cert.Values.Looked.run (F := Ideal) m' ρ')
  exact congrArg₂ (Cert.Values.posSum (B := 4) (S := 8192) (E := 1024)) (hagree c).1 (hagree c).2

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, values⟩

end Cert.Proof

end
